-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x50 : Shape := ⟨2, ![4096, 50]⟩
abbrev S4096x50x1000 : Shape := ⟨3, ![4096, 50, 1000]⟩
abbrev S64x50 : Shape := ⟨2, ![64, 50]⟩
abbrev S64x50x1000 : Shape := ⟨3, ![64, 50, 1000]⟩
abbrev S64x50x1 : Shape := ⟨3, ![64, 50, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x50, .i32⟩
  | .hbm, ⟨1, _⟩ => ⟨S4096x50x1000, .f32⟩
  | .local _ .vmem, ⟨0, _⟩ => ⟨S64x50, .i32⟩
  | .local _ .vmem, ⟨1, _⟩ => ⟨S64x50, .i32⟩
  | .local _ .vmem, ⟨2, _⟩ => ⟨S64x50x1000, .f32⟩
  | .local _ .vmem, ⟨3, _⟩ => ⟨S64x50x1000, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x50x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4096x50 : Shape := ⟨2, ![4096, 50]⟩
abbrev S1000 : Shape := ⟨1, ![1000]⟩
abbrev S4096x50x1 : Shape := ⟨3, ![4096, 50, 1]⟩
abbrev S1x1x1000 : Shape := ⟨3, ![1, 1, 1000]⟩
abbrev S4096x50x1000 : Shape := ⟨3, ![4096, 50, 1000]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000, .i32⟩
  | .hbm, ⟨2, _⟩ => ⟨S4096x50x1, .i32⟩
  | .hbm, ⟨3, _⟩ => ⟨S1x1x1000, .i32⟩
  | .hbm, ⟨4, _⟩ => ⟨S4096x50x1000, .i32⟩
  | .hbm, ⟨5, _⟩ => ⟨S4096x50x1000, .i32⟩
  | .hbm, ⟨6, _⟩ => ⟨S4096x50x1000, .i1⟩
  | .hbm, ⟨7, _⟩ => ⟨S_, .f32⟩
  | .hbm, ⟨8, _⟩ => ⟨S_, .f32⟩
  | .hbm, ⟨9, _⟩ => ⟨S4096x50x1000, .f32⟩
  | .hbm, ⟨10, _⟩ => ⟨S4096x50x1000, .f32⟩
  | .hbm, ⟨11, _⟩ => ⟨S4096x50x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.OneHot.lean ====
/-
  One-hot encoding as a function of whole index arrays, and the two printed spellings of it read at an index.

  `oneHot x` has, at `(r, q, d)`, the word of `1.0` where `x (r, q)` is the integer `d` and the word of `0.0` elsewhere.
  `block_eq` reads the vector operations of the kernel body, and `host_eq` the host operations of the reference, as that
  one function, for any number of rows: the body is at 64 rows, the reference at 4096.
-/
module

public import Idealize.ShloMosaic.Lib.Pipeline.Value
public import Idealize.ShloMosaic.Lib.ValueIdx

@[expose] public section

noncomputable section

namespace Cert.OneHot

open Idealize.ShloMosaic Idealize.ShloMosaic.TcCoe Idealize.SL.Sem

variable {F : FTy → Type} [FloatOps F] {n : Nat}

/-- An array of `n` rows of 50 indices. -/
abbrev SIn (n : Nat) : Shape := ⟨2, ![n, 50]⟩
/-- The same with a unit axis appended. -/
abbrev SCol (n : Nat) : Shape := ⟨3, ![n, 50, 1]⟩
/-- The encoding of `n` rows of 50 indices at depth 1000. -/
abbrev SOut (n : Nat) : Shape := ⟨3, ![n, 50, 1000]⟩

/-- The position in the index array that the encoding's element `i` is about: its first two coordinates. -/
def src (i : (SOut n).Idx) : (SIn n).Idx := fun a => match a with
  | ⟨0, _⟩ => i 0
  | ⟨1, _⟩ => i 1

/-- The same position in the array with the unit axis appended. -/
def srcCol (i : (SOut n).Idx) : (SCol n).Idx := fun a => match a with
  | ⟨0, _⟩ => i 0
  | ⟨1, _⟩ => i 1
  | ⟨2, _⟩ => ⟨0, Nat.one_pos⟩

/-- One-hot encoding: `1.0` where the index is the depth coordinate, `0.0` elsewhere. -/
def oneHot (x : IVec (SIn n) 32) : FVec F (SOut n) .f32 := fun i =>
  if x (src i) = BitVec.ofNat 32 (i 2).val then Scalar.ofBits .f32 0x3F800000#32 else Scalar.ofBits .f32 0x00000000#32

/-- Choosing by a comparison for equality is the conditional on the equality. -/
theorem select_cmpi_eq {α : Type} (x y : BitVec 32) (a b : α) :
    Scalar.select (IntOp.cmpi .eq x y) a b = if x = y then a else b := by
  by_cases h : x = y
  · simp [Scalar.select, IntOp.cmpi, h]
  · have hb : (x == y) = false := by simpa using h
    simp [Scalar.select, IntOp.cmpi, h, hb]

/-- The kernel body's operations (a unit axis appended, broadcast along the depth, compared with the iota of the depth
    coordinate, selected between the two constants) compute the encoding of the rows they are given. -/
theorem block_eq (x : IVec (SIn n) 32) (hi : (SOut n).Iotas .tc 32 [2]) (hc : (SIn n).ShapeCasts (SCol n))
    (hb : (SCol n).Broadcasts (SOut n)) :
    select (cmpi .eq (broadcastTo (SOut n) (shapeCast (SCol n) x hc) hb) (iota .tc (SOut n) 32 [2] hi))
        (broadcast (SOut n) (Scalar.ofBits (F := F) .f32 0x3F800000#32))
        (broadcast (SOut n) (Scalar.ofBits (F := F) .f32 0x00000000#32)) = oneHot x := by
  funext i
  have e : broadcastTo (SOut n) (shapeCast (SCol n) x hc) hb i = x (src i) := by
    refine (broadcastTo_apply _ hb i (srcCol i) fun a => ?_).trans (shapeCast_apply x hc (srcCol i) (src i) ?_)
    · match a with
      | ⟨0, _⟩ =>
        have h0 : (i 0).val < n := (i 0).isLt
        show (i 0).val = if n = 1 then 0 else (i 0).val
        split <;> omega
      | ⟨1, _⟩ => rfl
      | ⟨2, _⟩ => rfl
    · rw [Shape.rowMajor_val_two, Shape.rowMajor_val_three]
      show (i 0).val * 50 + (i 1).val = ((i 0).val * 50 + (i 1).val) * 1 + 0
      omega
  show Scalar.select (IntOp.cmpi .eq (broadcastTo (SOut n) (shapeCast (SCol n) x hc) hb i) (iota .tc (SOut n) 32 [2] hi i)) _ _ = _
  rw [e, iota_single_apply, select_cmpi_eq]
  rfl

/-- The reference's host operations (the indices and the iota of the depth broadcast to the result's shape, compared,
    selected between the two constants) compute the encoding of the whole array. -/
theorem host_eq (x : IVec (SIn n) 32) (h1 : (SIn n).BroadcastsInDim (SCol n) ![0, 1])
    (h2 : (SCol n).BroadcastsInDim (SOut n) ![0, 1, 2])
    (h3 : (⟨1, ![1000]⟩ : Shape).BroadcastsInDim ⟨3, ![1, 1, 1000]⟩ ![2])
    (h4 : (⟨3, ![1, 1, 1000]⟩ : Shape).BroadcastsInDim (SOut n) ![0, 1, 2])
    (h5 : (⟨0, ![]⟩ : Shape).BroadcastsInDim (SOut n) ![]) :
    select (cmpi .eq (broadcastInDim (SOut n) ![0, 1, 2] h2 (broadcastInDim (SCol n) ![0, 1] h1 x))
          (broadcastInDim (SOut n) ![0, 1, 2] h4 (broadcastInDim ⟨3, ![1, 1, 1000]⟩ ![2] h3 (iotaInDim ⟨1, ![1000]⟩ 32 0))))
        (broadcastInDim (SOut n) ![] h5 (constant (F := F) ⟨0, ![]⟩ .f32 0x3F800000#32))
        (broadcastInDim (SOut n) ![] h5 (constant (F := F) ⟨0, ![]⟩ .f32 0x00000000#32)) = oneHot x := by
  funext i
  have e : broadcastInDim (SOut n) ![0, 1, 2] h2 (broadcastInDim (SCol n) ![0, 1] h1 x) i = x (src i) := by
    have h0 : (i 0).val < n := (i 0).isLt
    refine (broadcastInDim_apply _ h2 _ i (srcCol i) fun a => ?_).trans
      (broadcastInDim_apply _ h1 x (srcCol i) (src i) fun a => ?_)
    · match a with
      | ⟨0, _⟩ =>
        show (i 0).val = if n = 1 then 0 else (i 0).val
        split <;> omega
      | ⟨1, _⟩ => rfl
      | ⟨2, _⟩ => rfl
    · match a with
      | ⟨0, _⟩ =>
        show (i 0).val = if n = 1 then 0 else (i 0).val
        split <;> omega
      | ⟨1, _⟩ => rfl
  show Scalar.select (IntOp.cmpi .eq (broadcastInDim (SOut n) ![0, 1, 2] h2 (broadcastInDim (SCol n) ![0, 1] h1 x) i)
    (BitVec.ofNat 32 (i 2).val)) _ _ = _
  rw [e, select_cmpi_eq]
  rfl

/-- Two encodings agree at elements with the same depth coordinate whose indices agree: so the encoding of a block of rows
    is that block of the encoding. -/
theorem oneHot_congr {k : Nat} {x : IVec (SIn n) 32} {y : IVec (SIn k) 32} {i : (SOut n).Idx} {j : (SOut k).Idx}
    (hx : x (src i) = y (src j)) (hd : (i 2).val = (j 2).val) : oneHot (F := F) x i = oneHot y j := by
  unfold oneHot
  rw [hx, hd]

end Cert.OneHot

end
-- ==== Proof.KernelIdealEncoding.lean ====
/-
  What the result array of the kernel at the ideal instance holds after the run: the one-hot encoding of the index array.

  Grid point `t` is given rows `64 t ‥ 64 t + 63` of the indices and writes the same rows of the result; the body's value
  is the encoding of its rows (`Cert.OneHot.block_eq`), the encoding of a block of rows is that block of the encoding,
  and the 64 blocks cover the array.
-/
module

public import proofs.«01_k».proof.Proof.Gen.KernelIdeal.Value
public import proofs.«01_k».proof.Proof.OneHot
public import Idealize.ShloMosaic.Lib.Pipeline.ValueKit

@[expose] public section

noncomputable section

namespace Cert.KernelIdeal.Encoding

open Cert.KernelIdeal Cert.KernelIdeal.Gen Cert.OneHot
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The encoding of device `c`'s index array. -/
abbrev result (c : Dev nD) : Buf (Elt F) ((c : Thread nD τ).loc main_v0) :=
  oneHot (n := 4096) (m ((c : Thread nD τ).loc main_arg0))

/-- The value the body stores is the encoding of the rows it loads. -/
theorem payload_eq (x : Vec F S64x50 .i32) : k0_pay1 x = oneHot (n := 64) x := by
  unfold k0_pay1
  exact block_eq x _ _ _

/-- What the result's staging buffer holds after the body: the encoding of the input block. -/
theorem out_eq (x : Vec F S64x50 .i32) : out0_1 x = oneHot (n := 64) x := by
  unfold out0_1
  rw [View.canon_unit_zero (funext fun a => by fin_cases a <;> rfl),
    View.ld_unit_zero (funext fun a => by fin_cases a <;> rfl), payload_eq]

/-- At point `t` the indices' block is block `t` along the rows, -/
theorem index_in : ∀ t : Fin cfg0.N, win0_0.index t = ![t.val, 0] :=
  (by decide +kernel : ∀ t : Fin grid0.N, _)

/-- and the result's block is block `t` along the rows, whole along the other axes. -/
theorem index_out : ∀ t : Fin cfg0.N, win0_1.index t = ![t.val, 0, 0] :=
  (by decide +kernel : ∀ t : Fin grid0.N, _)

/-- The result array ends holding the encoding of the whole index array. -/
theorem final (c : Dev nD) : (dats m 0 c).arrAt 1 cfg0.N = result m c := by
  -- element `y` of point `t`'s block: its index is the array's index at the block's place in it
  refine (dats m 0 c).arrAt_eq_of_covers 1 _ (by decide +kernel) fun t _ y => ?_
  blk_simp
  rw [after0_1, out_eq]
  have hidx : iblk m c 0 t (src y) = m ((c : Thread nD τ).loc main_arg0) (src (n := 4096) ((win0_1.blk t).view.emb y)) := by
    show V m c main_arg0 ((win0_0.blk t).view.emb (src y)) = _
    refine congrArg (m ((c : Thread nD τ).loc main_arg0)) (funext fun a => Fin.ext ?_)
    match a with
    | ⟨0, _⟩ =>
      show win0_0.index t 0 * 64 + 1 * (y 0).val = win0_1.index t 0 * 64 + 1 * (y 0).val
      rw [index_in, index_out]; rfl
    | ⟨1, _⟩ =>
      show win0_0.index t 1 * 50 + 1 * (y 1).val = win0_1.index t 1 * 50 + 1 * (y 1).val
      rw [index_in, index_out]; rfl
  refine oneHot_congr (n := 64) (k := 4096) hidx ?_
  show (y 2).val = win0_1.index t 2 * 1000 + 1 * (y 2).val
  rw [index_out]
  show (y 2).val = 0 * 1000 + 1 * (y 2).val
  omega

/-- The run: the result array at the encoding of the indices, the indices unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Encoding

end
-- ==== Proof.lean ====
/-
  One-hot encoding of i32[4096, 50] at depth 1000: the proof of `Cert.Claim` (proofs.«01_k».proof.Defs).

  The runs' frames come from the generated modules. The value claims follow from three facts: the kernel's result array
  ends at `OneHot.oneHot` of the indices (`Proof/KernelEncoding.lean`, and `Proof/KernelIdealEncoding.lean` at the ideal
  instance), and the reference's composed host operations are the same function (`OneHot.host_eq`).
-/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelEncoding
public import proofs.«01_k».proof.Proof.KernelIdealEncoding
public import Idealize.ShloMosaic.Lib.Quiescent

@[expose] public section

noncomputable section

namespace Cert.Proof

open Idealize.ShloMosaic Idealize.ShloMosaic.TcCoe Idealize.SL.Sem

/-- The kernel's frame, on words. -/
theorem frame_kernel : Cert.quiescent_Kernel := fun m ρ _ => Cert.Kernel.Gen.frame m ρ

/-- The kernel's frame, over the extended reals. -/
theorem frame_kernelIdeal : Cert.quiescent_KernelIdeal := fun m ρ _ => Cert.KernelIdeal.Gen.frame m ρ

/-- The reference's frame, on words: its run read at the argument; it has no semaphore. -/
theorem frame_reference : Cert.quiescent_Reference := fun m ρ _ =>
  (θ_run Cert.Reference.defs _ _).mono
    (fun r h => ⟨fun c => (h c).2, sem_eq_zero_of_no_sems (by decide) r.2⟩) (Cert.Reference.Value.run (F := Bits) m ρ)

/-- The reference's frame, over the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The ideal pass rewrote nothing. -/
theorem preserves : Cert.preserves_Kernel_KernelIdeal := trivial

/-- Over the extended reals, kernel and reference both end with the encoding of the indices. -/
theorem algebraic : Cert.algebraic_KernelIdeal_ReferenceIdeal := by
  intro m ρ m' ρ' _ hagree
  refine ⟨fun c => Cert.KernelIdeal.Encoding.result m c, Cert.KernelIdeal.Encoding.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.OneHot.host_eq (n := 4096) _ _ _ _ _ _

/-- On words, kernel and reference both end with the encoding of the indices. -/
theorem bitexact : Cert.bitexact_Kernel_Reference := by
  intro m ρ m' ρ' _ hagree
  refine ⟨fun c => Cert.Kernel.Encoding.result m c, Cert.Kernel.Encoding.run m ρ, ?_⟩
  refine (θ_run Cert.Reference.defs _ _).mono (fun _ h c => ⟨(h c).1.trans ?_, (h c).2⟩)
    (Cert.Reference.Value.run (F := Bits) m' ρ')
  rw [hagree c]
  exact Cert.OneHot.host_eq (n := 4096) _ _ _ _ _ _

/-- Every claim of the certificate. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, preserves, algebraic, bitexact⟩

end Cert.Proof

end
